-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gate_finite [hPre_gate_finite : Cert.Pre_gate_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gate_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gate_finite [hPre_gate_finite : Cert.Pre_gate_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gate_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_gate_finite [hKernelIdeal : Cert.KernelIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gate_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_gate_finite [hReferenceIdeal : Cert.ReferenceIdeal.Facts] [hPre_gate_finite : Cert.Pre_gate_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gate_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_gate_finite [hKernelIdeal : Cert.KernelIdeal.Facts] [hReferenceIdeal : Cert.ReferenceIdeal.Facts] [hPre_gate_finite : Cert.Pre_gate_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gate_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_cst)) (v2 : (c : Dev Cert.KernelIdeal.nD) → Buf (Elt Ideal) ((c.tc : Thread Cert.KernelIdeal.nD Cert.KernelIdeal.τ).loc Cert.KernelIdeal.main_cst_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_cst_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_cst_10) = v1 c
          ∧ r.2.mem ((c.tc : Thread Cert.ReferenceIdeal.nD Cert.ReferenceIdeal.τ).loc Cert.ReferenceIdeal.main_cst_11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_gate_finite : Cert.Pre_gate_finite.Facts),
    quiescent_Kernel (hKernel := hKernel)
    ∧ quiescent_KernelIdeal (hKernelIdeal := hKernelIdeal)
    ∧ quiescent_KernelIdeal_pre_gate_finite (hKernelIdeal := hKernelIdeal) (hPre_gate_finite := hPre_gate_finite)
    ∧ quiescent_ReferenceIdeal (hReferenceIdeal := hReferenceIdeal)
    ∧ quiescent_ReferenceIdeal_pre_gate_finite (hReferenceIdeal := hReferenceIdeal) (hPre_gate_finite := hPre_gate_finite)
    ∧ preserves_Kernel_KernelIdeal
    ∧ algebraic_KernelIdeal_ReferenceIdeal_pre_gate_finite (hKernelIdeal := hKernelIdeal) (hReferenceIdeal := hReferenceIdeal) (hPre_gate_finite := hPre_gate_finite)
-- ==== Pre_gate_finite.lean ====
abbrev S2048x2x1024 : Shape := ⟨3, ![2048, 2, 1024]⟩
abbrev S1x1024 : Shape := ⟨2, ![1, 1024]⟩
abbrev S1 : Shape := ⟨1, ![1]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S1024x1 : Shape := ⟨2, ![1024, 1]⟩
abbrev S4096x1 : Shape := ⟨2, ![4096, 1]⟩
abbrev S1x1 : Shape := ⟨2, ![1, 1]⟩
abbrev S_ : Shape := ⟨0, ![]⟩

class Facts : Prop where
  shapeCasts_S2048x2x1024_S4096x1024 : S2048x2x1024.ShapeCasts S4096x1024
  transposes_S1x1024_S1024x1_1_0 : S1x1024.Transposes [1, 0] S1024x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  dot_S4096x1024_S1024x1_S4096x1_1_0_0_1_n_n_wf : DotDims.WF S4096x1024 S1024x1 S4096x1 [1] [0] [0] [1] [] []

variable [Facts]

def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf
def fn {F : FTy → Type} [FloatOps F] (main_arg0 : FVec F S2048x2x1024 .f32) (main_arg1 : FVec F S1x1024 .f32) (main_arg2 : FVec F S1 .f32) (main_arg3 : FVec F S4096x1024 .f32) (main_arg4 : FVec F S4096 .f32) (main_arg5 : FVec F S4096 .f32) (main_arg6 : FVec F S4096 .f32) (main_arg7 : FVec F S1024x4096 .f32) (main_arg8 : FVec F S1024 .f32) : IVec S4096x1 1 :=
  let main_v0 : FVec F S4096x1024 .f32 := shapeCast S4096x1024 main_arg0 shapeCasts_S2048x2x1024_S4096x1024
  let main_v1 : FVec F S1024x1 .f32 := (transpose S1024x1 [1, 0] · transposes_S1x1024_S1024x1_1_0) main_arg1
  let main_v2 : FVec F S4096x1 .f32 := (fun l r => Host.dotGeneral dot_S4096x1024_S1024x1_S4096x1_1_0_0_1_n_n none l r) main_v0 main_v1
  let main_v3 : FVec F S1x1 .f32 := broadcastInDim S1x1 ![1] bcast_S1_S1x1_1 main_arg2
  let main_v4 : FVec F S4096x1 .f32 := broadcastInDim S4096x1 ![0, 1] bcast_S1x1_S4096x1_0_1 main_v3
  let main_v5 : FVec F S4096x1 .f32 := addf main_v2 main_v4
  let main_v6 : FVec F S4096x1 .f32 := Host.absf main_v5
  let main_cst : FVec F S_ .f32 := constant S_ .f32 0x7F800000#32
  let main_v7 : FVec F S4096x1 .f32 := broadcastInDim S4096x1 ![] bcast_S_S4096x1 main_cst
  let main_v8 : IVec S4096x1 1 := cmpf .olt main_v6 main_v7
  main_v8
-- ==== Kernel.lean ====
abbrev S2048x2x1024 : Shape := ⟨3, ![2048, 2, 1024]⟩
abbrev S1x1024 : Shape := ⟨2, ![1, 1024]⟩
abbrev S1 : Shape := ⟨1, ![1]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S1x4096 : Shape := ⟨2, ![1, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S2048x2x1024, .f32⟩
  | .hbm, ⟨1, _⟩ => ⟨S1x1024, .f32⟩
  | .hbm, ⟨2, _⟩ => ⟨S1, .f32⟩
  | .hbm, ⟨3, _⟩ => ⟨S4096x1024, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1024x4096, .f32⟩
  | .hbm, ⟨8, _⟩ => ⟨S1024, .f32⟩
  | .hbm, ⟨9, _⟩ => ⟨S4096x1024, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x1024, .f32⟩
  | .hbm, ⟨14, _⟩ => ⟨S4096x1024, .f32⟩
  | .hbm, ⟨15, _⟩ => ⟨S2048x2x1024, .f32⟩
  | .hbm, ⟨16, _⟩ => ⟨S_, .f32⟩
  | .hbm, ⟨17, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S4096x1024, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1024x4096, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x2x1024 : Shape := ⟨3, ![2048, 2, 1024]⟩
abbrev S1x1024 : Shape := ⟨2, ![1, 1024]⟩
abbrev S1 : Shape := ⟨1, ![1]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S1024x1 : Shape := ⟨2, ![1024, 1]⟩
abbrev S4096x1 : Shape := ⟨2, ![4096, 1]⟩
abbrev S1x1 : Shape := ⟨2, ![1, 1]⟩
abbrev S_ : Shape := ⟨0, ![]⟩
abbrev S4096x4096 : Shape := ⟨2, ![4096, 4096]⟩
abbrev S1x4096 : Shape := ⟨2, ![1, 4096]⟩

abbrev nBuf : Space → Nat
  | .hbm => 184
  | .vmem => 0
  | .smem => 0
  | _ => 0

abbrev hbmTy0_0 (i : Nat) : BufTy := match i % 128 with
  | 0 => ⟨S2048x2x1024, .f32⟩
  | 1 => ⟨S1x1024, .f32⟩
  | 2 => ⟨S1, .f32⟩
  | 3 => ⟨S4096x1024, .f32⟩
  | 4 => ⟨S4096, .f32⟩
  | 5 => ⟨S4096, .f32⟩
  | 6 => ⟨S4096, .f32⟩
  | 7 => ⟨S1024x4096, .f32⟩
  | 8 => ⟨S1024, .f32⟩
  | 9 => ⟨S4096x1024, .f32⟩
  | 10 => ⟨S1024x1, .f32⟩
  | 11 => ⟨S4096x1, .f32⟩
  | 12 => ⟨S1x1, .f32⟩
  | 13 => ⟨S4096x1, .f32⟩
  | 14 => ⟨S4096x1, .f32⟩
  | 15 => ⟨S_, .f32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x1, .f32⟩
  | 22 => ⟨S4096x1, .f32⟩
  | 23 => ⟨S_, .f32⟩
  | 24 => ⟨S4096, .f32⟩
  | 25 => ⟨S4096x1, .f32⟩
  | 26 => ⟨S4096x1, .f32⟩
  | 27 => ⟨S4096x1, .f32⟩
  | 28 => ⟨S4096x1, .i32⟩
  | 29 => ⟨S4096, .i32⟩
  | 30 => ⟨S4096x1, .i32⟩
  | 31 => ⟨S4096, .i32⟩
  | 32 => ⟨S4096, .i32⟩
  | 33 => ⟨S4096, .f32⟩
  | 34 => ⟨S4096, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S1, .i32⟩
  | 46 => ⟨S_, .i32⟩
  | 47 => ⟨S4096x1, .i32⟩
  | 48 => ⟨S4096x1, .i1⟩
  | 49 => ⟨S1x1, .i32⟩
  | 50 => ⟨S4096x1, .i32⟩
  | 51 => ⟨S4096x1, .i1⟩
  | 52 => ⟨S4096x1, .i1⟩
  | 53 => ⟨S_, .i1⟩
  | 54 => ⟨S4096, .i1⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S4096x1, .i32⟩
  | 67 => ⟨S1, .i32⟩
  | 68 => ⟨S_, .i32⟩
  | 69 => ⟨S4096x1, .i32⟩
  | 70 => ⟨S4096x1, .i1⟩
  | 71 => ⟨S1x1, .i32⟩
  | 72 => ⟨S4096x1, .i32⟩
  | 73 => ⟨S4096x1, .i1⟩
  | 74 => ⟨S4096x1, .i1⟩
  | 75 => ⟨S_, .i1⟩
  | 76 => ⟨S4096, .i1⟩
  | 77 => ⟨S4096, .f32⟩
  | 78 => ⟨S_, .f32⟩
  | 79 => ⟨S4096, .f32⟩
  | 80 => ⟨S4096, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S1, .i32⟩
  | 90 => ⟨S_, .i32⟩
  | 91 => ⟨S4096x1, .i32⟩
  | 92 => ⟨S4096x1, .i1⟩
  | 93 => ⟨S1x1, .i32⟩
  | 94 => ⟨S4096x1, .i32⟩
  | 95 => ⟨S4096x1, .i1⟩
  | 96 => ⟨S4096x1, .i1⟩
  | 97 => ⟨S_, .i1⟩
  | 98 => ⟨S4096, .i1⟩
  | 99 => ⟨S4096x1024, .f32⟩
  | 100 => ⟨S4096x1024, .i1⟩
  | 101 => ⟨S_, .f32⟩
  | 102 => ⟨S4096x1024, .f32⟩
  | 103 => ⟨S4096x1024, .f32⟩
  | 104 => ⟨S1024x4096, .f32⟩
  | 105 => ⟨S4096x4096, .f32⟩
  | 106 => ⟨S1x4096, .f32⟩
  | 107 => ⟨S4096x4096, .f32⟩
  | 108 => ⟨S4096x4096, .f32⟩
  | 109 => ⟨S_, .f32⟩
  | 110 => ⟨S4096x4096, .f32⟩
  | 111 => ⟨S4096x4096, .f32⟩
  | 112 => ⟨S4096x4096, .f32⟩
  | 113 => ⟨S_, .f32⟩
  | 114 => ⟨S4096x4096, .f32⟩
  | 115 => ⟨S4096x4096, .f32⟩
  | 116 => ⟨S4096x4096, .f32⟩
  | 117 => ⟨S4096x4096, .f32⟩
  | 118 => ⟨S_, .f32⟩
  | 119 => ⟨S4096, .f32⟩
  | 120 => ⟨S4096x1, .f32⟩
  | 121 => ⟨S_, .f32⟩
  | 122 => ⟨S4096x1, .f32⟩
  | 123 => ⟨S4096x1, .f32⟩
  | 124 => ⟨S_, .i32⟩
  | 125 => ⟨S_, .f32⟩
  | 126 => ⟨S4096, .f32⟩
  | 127 => ⟨S4096x1, .f32⟩
  | _ => ⟨S2048x2x1024, .f32⟩

abbrev hbmTy0_1 (i : Nat) : BufTy := match i % 128 with
  | 0 => ⟨S_, .f32⟩
  | 1 => ⟨S4096x1, .f32⟩
  | 2 => ⟨S4096x1, .f32⟩
  | 3 => ⟨S4096x4096, .f32⟩
  | 4 => ⟨S4096x4096, .f32⟩
  | 5 => ⟨S4096x4096, .f32⟩
  | 6 => ⟨S_, .f32⟩
  | 7 => ⟨S_, .f32⟩
  | 8 => ⟨S_, .f32⟩
  | 9 => ⟨S_, .f32⟩
  | 10 => ⟨S4096, .f32⟩
  | 11 => ⟨S4096x1, .f32⟩
  | 12 => ⟨S4096x1, .f32⟩
  | 13 => ⟨S4096x1, .f32⟩
  | 14 => ⟨S_, .f32⟩
  | 15 => ⟨S_, .i1⟩
  | 16 => ⟨S_, .f32⟩
  | 17 => ⟨S_, .f32⟩
  | 18 => ⟨S4096x1, .f32⟩
  | 19 => ⟨S4096x1, .f32⟩
  | 20 => ⟨S4096x4096, .f32⟩
  | 21 => ⟨S4096x4096, .f32⟩
  | 22 => ⟨S_, .f32⟩
  | 23 => ⟨S4096x1, .f32⟩
  | 24 => ⟨S4096x1, .f32⟩
  | 25 => ⟨S4096x1, .f32⟩
  | 26 => ⟨S4096x4096, .f32⟩
  | 27 => ⟨S4096x4096, .f32⟩
  | 28 => ⟨S1x4096, .f32⟩
  | 29 => ⟨S4096x4096, .f32⟩
  | 30 => ⟨S4096x4096, .f32⟩
  | 31 => ⟨S1x4096, .f32⟩
  | 32 => ⟨S4096x4096, .f32⟩
  | 33 => ⟨S4096x4096, .f32⟩
  | 34 => ⟨S4096x1024, .f32⟩
  | 35 => ⟨S4096x1024, .f32⟩
  | 36 => ⟨S1x1024, .f32⟩
  | 37 => ⟨S4096x1024, .f32⟩
  | 38 => ⟨S4096x1024, .f32⟩
  | 39 => ⟨S4096x1, .f32⟩
  | 40 => ⟨S4096x1024, .f32⟩
  | 41 => ⟨S4096x1024, .f32⟩
  | 42 => ⟨S_, .f32⟩
  | 43 => ⟨S4096x1024, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S4096x1024, .f32⟩
  | 53 => ⟨S2048x2x1024, .f32⟩
  | 54 => ⟨S_, .f32⟩
  | 55 => ⟨S_, .f32⟩
  | _ => ⟨S2048x2x1024, .f32⟩

abbrev hbmTy (i : Nat) : BufTy := match i / 128 with
  | 0 => hbmTy0_0 i
  | 1 => hbmTy0_1 i
  | _ => ⟨S2048x2x1024, .f32⟩

abbrev bufTy : (tb : Table) → Fin (tcTables nBuf tb) → BufTy
  | .hbm, ⟨i, _⟩ => hbmTy i
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_values : Ref sig .tc := ⟨.hbm, 27, rfl⟩
abbrev main_indices : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_v0 : Ref sig .tc := ⟨.hbm, 34, rfl⟩
abbrev main_call0_v1_0 : Ref sig .tc := ⟨.hbm, 35, rfl⟩
abbrev main_v20 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_c_4 : Ref sig .tc := ⟨.hbm, 56, rfl⟩
abbrev main_call1_v14 : Ref sig .tc := ⟨.hbm, 57, rfl⟩
abbrev main_v21 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v22 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_v14 : Ref sig .tc := ⟨.hbm, 100, rfl⟩
abbrev main_call3_cst : Ref sig .tc := ⟨.hbm, 101, rfl⟩
abbrev main_call3_v15 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_cst_2 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_cst_3 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_cst_4 : Ref sig .tc := ⟨.hbm, 118, rfl⟩
abbrev main_v36 : Ref sig .tc := ⟨.hbm, 119, rfl⟩
abbrev main_v37 : Ref sig .tc := ⟨.hbm, 120, rfl⟩
abbrev main_cst_5 : Ref sig .tc := ⟨.hbm, 121, rfl⟩
abbrev main_v38 : Ref sig .tc := ⟨.hbm, 122, rfl⟩
abbrev main_v39 : Ref sig .tc := ⟨.hbm, 123, rfl⟩
abbrev main_c : Ref sig .tc := ⟨.hbm, 124, rfl⟩
abbrev main_call4_cst : Ref sig .tc := ⟨.hbm, 125, rfl⟩
abbrev main_call4_v0 : Ref sig .tc := ⟨.hbm, 126, rfl⟩
abbrev main_call4_v1 : Ref sig .tc := ⟨.hbm, 127, rfl⟩
abbrev main_call4_cst_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_v6 : Ref sig .tc := ⟨.hbm, 133, rfl⟩
abbrev main_call4_v7 : Ref sig .tc := ⟨.hbm, 134, rfl⟩
abbrev main_call4_cst_1 : Ref sig .tc := ⟨.hbm, 135, rfl⟩
abbrev main_call4_v8 : Ref sig .tc := ⟨.hbm, 136, rfl⟩
abbrev main_call4_cst_2 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_v12 : Ref sig .tc := ⟨.hbm, 141, rfl⟩
abbrev main_call4_cst_3 : Ref sig .tc := ⟨.hbm, 142, rfl⟩
abbrev main_call4_v13 : Ref sig .tc := ⟨.hbm, 143, rfl⟩
abbrev main_call4_cst_4 : Ref sig .tc := ⟨.hbm, 144, rfl⟩
abbrev main_call4_call0_v0 : Ref sig .tc := ⟨.hbm, 145, rfl⟩
abbrev main_call4_call0_v1 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_cst_6 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_v48 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_cst_7 : Ref sig .tc := ⟨.hbm, 170, rfl⟩
abbrev main_v62 : Ref sig .tc := ⟨.hbm, 171, rfl⟩
abbrev main_c_8 : Ref sig .tc := ⟨.hbm, 172, rfl⟩
abbrev main_v63 : Ref sig .tc := ⟨.hbm, 173, rfl⟩
abbrev main_v64 : Ref sig .tc := ⟨.hbm, 174, rfl⟩
abbrev main_c_9 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_cst_10 : Ref sig .tc := ⟨.hbm, 182, rfl⟩
abbrev main_cst_11 : Ref sig .tc := ⟨.hbm, 183, rfl⟩

abbrev nD : Nat := 1
abbrev τ : Topo := Topo.v7x

variable {F : FTy → Type} [FloatOps F]
-- ==== Proof.Spec.lean ====
/-
  The mathematics of one token's feed-forward pass, at the extended reals: a linear layer, the exact GELU, a layer
  normalisation with scale and shift, and a second linear layer. One token is a row of 1024 numbers.
-/
module

public import Idealize.ShloMosaic.Lib.Pointwise

@[expose] public section

noncomputable section

open Idealize.ShloMosaic

namespace Cert.Ffn

/-- The number of hidden features, 4096, as the programs write it. -/
abbrev count : EReal := Ideal.ofBits .f32 0x45800000#32
/-- The small number added to the variance. -/
abbrev eps : EReal := Ideal.ofBits .f32 0x3727C5AC#32
/-- The square root of one half, rounded to a float. -/
abbrev rootHalf : EReal := Ideal.ofBits .f32 0x3F3504F3#32
/-- One half. -/
abbrev half : EReal := Ideal.ofBits .f32 0x3F000000#32

/-- Hidden feature `k` of the token `x`: the first linear layer. -/
def hidden (x : Fin 1024 → EReal) (w : Fin 4096 → Fin 1024 → EReal) (b : Fin 4096 → EReal) (k : Fin 4096) : EReal :=
  (∑ q : Fin 1024, x q * w k q) + b k

/-- The exact GELU of a number: half of it times one plus the error function of it over the square root of two. -/
def gelu (h : EReal) : EReal :=
  half * h * (Ideal.ofBits .f32 0x3F800000#32 + Ideal.erf (h * rootHalf))

/-- The mean of the hidden features. -/
def mean (a : Fin 4096 → EReal) : EReal := Ideal.div (∑ k : Fin 4096, a k) count

/-- The (biased) variance of the hidden features. -/
def var (a : Fin 4096 → EReal) : EReal := Ideal.div (∑ k : Fin 4096, (a k - mean a) * (a k - mean a)) count

/-- The layer normalisation of the hidden features with scale `g` and shift `b`. -/
def norm (a g b : Fin 4096 → EReal) (k : Fin 4096) : EReal :=
  (a k - mean a) * Ideal.rsqrt (var a + eps) * g k + b k

/-- Output feature `j` of the normalised features `y`: the second linear layer. -/
def out (y : Fin 4096 → EReal) (w : Fin 1024 → Fin 4096 → EReal) (b : Fin 1024 → EReal) (j : Fin 1024) : EReal :=
  (∑ k : Fin 4096, y k * w j k) + b j

/-- The whole pass on one token. -/
def token (x : Fin 1024 → EReal) (w1 : Fin 4096 → Fin 1024 → EReal) (b1 g b : Fin 4096 → EReal)
    (w2 : Fin 1024 → Fin 4096 → EReal) (b2 : Fin 1024 → EReal) (j : Fin 1024) : EReal :=
  out (norm (fun k => gelu (hidden x w1 b1 k)) g b) w2 b2 j

/-- The whole pass on every token: row `i` of the result is the pass on row `i` of the tokens `x`. -/
def all (x w1 : FVec Ideal ⟨2, ![4096, 1024]⟩ .f32) (b1 g b : FVec Ideal ⟨1, ![4096]⟩ .f32)
    (w2 : FVec Ideal ⟨2, ![1024, 4096]⟩ .f32) (b2 : FVec Ideal ⟨1, ![1024]⟩ .f32) : FVec Ideal ⟨2, ![4096, 1024]⟩ .f32 :=
  fun i => token (fun q => x (ix2 (i 0) q)) (fun k q => w1 (ix2 k q)) (fun k => b1 (ix1 k)) (fun k => g (ix1 k))
    (fun k => b (ix1 k)) (fun j k => w2 (ix2 j k)) (fun j => b2 (ix1 j)) (i 1)

end Cert.Ffn
-- ==== Proof.KernelBlock.lean ====
/-
  What one grid point of the kernel computes from its blocks, read at an index.
-/
module

public import proofs.«01_k».proof.Proof.Spec
public import proofs.«01_k».proof.Proof.Gen.KernelIdeal.Skeleton

@[expose] public section

set_option maxRecDepth 16384

noncomputable section

open Idealize.ShloMosaic

namespace Cert.KernelIdeal.BlockValue

open Cert.KernelIdeal Cert.KernelIdeal.Gen

/-- The scaled normalised features of row `r` of a block of tokens. -/
theorem pay2_apply (x : FVec Ideal S512x1024 .f32) (w : FVec Ideal S4096x1024 .f32) (b g : FVec Ideal S1x4096 .f32)
    (r : Fin 512) (k : Fin 4096) :
    (k0_pay2 (F := Ideal) x w b g (ix2 r k) : EReal)
      = (Ffn.gelu (Ffn.hidden (fun q => x (ix2 r q)) (fun k q => w (ix2 k q)) (fun k => b (ix2 0 k)) k)
          - Ffn.mean (fun k => Ffn.gelu (Ffn.hidden (fun q => x (ix2 r q)) (fun k q => w (ix2 k q)) (fun k => b (ix2 0 k)) k)))
        * Ideal.rsqrt (Ffn.var (fun k => Ffn.gelu (Ffn.hidden (fun q => x (ix2 r q)) (fun k q => w (ix2 k q)) (fun k => b (ix2 0 k)) k))
            + Ffn.eps) * g (ix2 0 k) := by
  pointwise [k0_pay2, Ffn.mean, Ffn.var, Ffn.gelu, Ffn.hidden]
  rfl

/-- Row `r` of what the grid point stores is the whole pass on row `r` of its block of tokens. -/
theorem pay_apply (x : FVec Ideal S512x1024 .f32) (w : FVec Ideal S4096x1024 .f32) (b g b' : FVec Ideal S1x4096 .f32)
    (w2 : FVec Ideal S1024x4096 .f32) (b2 : FVec Ideal S1x1024 .f32) (r : Fin 512) (j : Fin 1024) :
    (k0_pay1 (F := Ideal) (k0_pay2 x w b g) b' w2 b2 (ix2 r j) : EReal)
      = Ffn.token (fun q => x (ix2 r q)) (fun k q => w (ix2 k q)) (fun k => b (ix2 0 k)) (fun k => g (ix2 0 k))
          (fun k => b' (ix2 0 k)) (fun j k => w2 (ix2 j k)) (fun j => b2 (ix2 0 j)) j := by
  pointwise [k0_pay1, Ffn.token, Ffn.out, Ffn.norm]
  simp only [pay2_apply]

end Cert.KernelIdeal.BlockValue
-- ==== Proof.KernelValue.lean ====
/-
  What the kernel's arrays hold after the run: the result is the pass on every token, reshaped.
-/
module

public import proofs.«01_k».proof.Proof.KernelBlock
public import proofs.«01_k».proof.Proof.Gen.KernelIdeal.Points
public import proofs.«01_k».proof.Proof.Gen.KernelIdeal.Frame
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen

variable (m : (ℓ : Loc nD τ sig) → Buf (Elt Ideal) ℓ) (ρ : Dev nD → PrngReg)

/-! ## What the region finds in the reshaped arrays -/

/-- The tokens, flattened to one row each. -/
theorem V_v0 (c : Dev nD) : V m c main_v0
    = shapeCast S4096x1024 (m ((c : Thread nD τ).loc main_arg0)) shapeCasts_S2048x2x1024_S4096x1024 := by
  show StableHlo.after _ _ _ = _
  simp only [List.flatten_cons, List.flatten_nil, List.append_nil, hostOps0]
  after_results_simp
  all_goals rfl

/-- The first bias as a row. -/
theorem V_v1 (c : Dev nD) : V m c main_v1
    = shapeCast S1x4096 (m ((c : Thread nD τ).loc main_arg4)) shapeCasts_S4096_S1x4096 := by
  show StableHlo.after _ _ _ = _
  simp only [List.flatten_cons, List.flatten_nil, List.append_nil, hostOps0]
  after_results_simp
  all_goals rfl

/-- The normalisation's scale as a row. -/
theorem V_v2 (c : Dev nD) : V m c main_v2
    = shapeCast S1x4096 (m ((c : Thread nD τ).loc main_arg5)) shapeCasts_S4096_S1x4096 := by
  show StableHlo.after _ _ _ = _
  simp only [List.flatten_cons, List.flatten_nil, List.append_nil, hostOps0]
  after_results_simp
  all_goals rfl

/-- The normalisation's shift as a row. -/
theorem V_v3 (c : Dev nD) : V m c main_v3
    = shapeCast S1x4096 (m ((c : Thread nD τ).loc main_arg6)) shapeCasts_S4096_S1x4096 := by
  show StableHlo.after _ _ _ = _
  simp only [List.flatten_cons, List.flatten_nil, List.append_nil, hostOps0]
  after_results_simp
  all_goals rfl

/-- The second bias as a row. -/
theorem V_v4 (c : Dev nD) : V m c main_v4
    = shapeCast S1x1024 (m ((c : Thread nD τ).loc main_arg8)) shapeCasts_S1024_S1x1024 := by
  show StableHlo.after _ _ _ = _
  simp only [List.flatten_cons, List.flatten_nil, List.append_nil, hostOps0]
  after_results_simp
  all_goals rfl

/-- A vector of 4096 reshaped to a row, read in the row. -/
theorem row4096 (x : FVec Ideal S4096 .f32) (k : Fin 4096) :
    (shapeCast S1x4096 x shapeCasts_S4096_S1x4096 (ix2 0 k) : EReal) = x (ix1 k) := by pointwise

/-- A vector of 1024 reshaped to a row, read in the row. -/
theorem row1024 (x : FVec Ideal S1024 .f32) (k : Fin 1024) :
    (shapeCast S1x1024 x shapeCasts_S1024_S1x1024 (ix2 0 k) : EReal) = x (ix1 k) := by pointwise

/-! ## The windows' blocks -/

/-- Every point's block of the parameters is the first, and its block of tokens and results the point's own. -/
theorem index_eq (t : Fin cfg0.N) :
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = t.val ∧ win0_7.index t 1 = 0) := by
  rcases fin_N0 t with rfl | rfl | rfl | rfl | rfl | rfl | rfl | rfl <;> decide +kernel

/-- Row `r` of point `t`'s block of tokens is row `512 t + r` of the tokens. -/
theorem iblk0 (c : Dev nD) (t : Fin cfg0.N) (j : S512x1024.Idx) (h : t.val * 512 + (j 0).val < 4096) :
    iblk m c 0 t j = V m c main_v0 (ix2 ⟨t.val * 512 + (j 0).val, h⟩ (j 1)) := by
  obtain ⟨e0, e1⟩ := (index_eq t).1
  show V m c main_v0 (((cfg0.win 0).blk t).view.emb j) = _
  congr 1
  funext a; apply Fin.ext
  match a with
  | ⟨0, _⟩ => show win0_0.index t 0 * 512 + 1 * (j 0).val = t.val * 512 + (j 0).val; rw [e0]; omega
  | ⟨1, _⟩ => show win0_0.index t 1 * 1024 + 1 * (j 1).val = (j 1).val; rw [e1]; omega

/-- The first layer's weights, whole. -/
theorem iblk1 (c : Dev nD) (t : Fin cfg0.N) : iblk m c 1 t = V m c main_arg3 := by
  obtain ⟨e0, e1⟩ := (index_eq t).2.1
  funext j
  show V m c main_arg3 (((cfg0.win 1).blk t).view.emb j) = V m c main_arg3 j
  congr 1
  funext a; apply Fin.ext
  match a with
  | ⟨0, _⟩ => show win0_1.index t 0 * 4096 + 1 * (j 0).val = (j 0).val; rw [e0]; omega
  | ⟨1, _⟩ => show win0_1.index t 1 * 1024 + 1 * (j 1).val = (j 1).val; rw [e1]; omega

/-- The first bias, whole. -/
theorem iblk2 (c : Dev nD) (t : Fin cfg0.N) : iblk m c 2 t = V m c main_v1 := by
  obtain ⟨e0, e1⟩ := (index_eq t).2.2.1
  funext j
  show V m c main_v1 (((cfg0.win 2).blk t).view.emb j) = V m c main_v1 j
  congr 1
  funext a; apply Fin.ext
  match a with
  | ⟨0, _⟩ => show win0_2.index t 0 * 1 + 1 * (j 0).val = (j 0).val; rw [e0]; omega
  | ⟨1, _⟩ => show win0_2.index t 1 * 4096 + 1 * (j 1).val = (j 1).val; rw [e1]; omega

/-- The scale, whole. -/
theorem iblk3 (c : Dev nD) (t : Fin cfg0.N) : iblk m c 3 t = V m c main_v2 := by
  obtain ⟨e0, e1⟩ := (index_eq t).2.2.2.1
  funext j
  show V m c main_v2 (((cfg0.win 3).blk t).view.emb j) = V m c main_v2 j
  congr 1
  funext a; apply Fin.ext
  match a with
  | ⟨0, _⟩ => show win0_3.index t 0 * 1 + 1 * (j 0).val = (j 0).val; rw [e0]; omega
  | ⟨1, _⟩ => show win0_3.index t 1 * 4096 + 1 * (j 1).val = (j 1).val; rw [e1]; omega

/-- The shift, whole. -/
theorem iblk4 (c : Dev nD) (t : Fin cfg0.N) : iblk m c 4 t = V m c main_v3 := by
  obtain ⟨e0, e1⟩ := (index_eq t).2.2.2.2.1
  funext j
  show V m c main_v3 (((cfg0.win 4).blk t).view.emb j) = V m c main_v3 j
  congr 1
  funext a; apply Fin.ext
  match a with
  | ⟨0, _⟩ => show win0_4.index t 0 * 1 + 1 * (j 0).val = (j 0).val; rw [e0]; omega
  | ⟨1, _⟩ => show win0_4.index t 1 * 4096 + 1 * (j 1).val = (j 1).val; rw [e1]; omega

/-- The second layer's weights, whole. -/
theorem iblk5 (c : Dev nD) (t : Fin cfg0.N) : iblk m c 5 t = V m c main_arg7 := by
  obtain ⟨e0, e1⟩ := (index_eq t).2.2.2.2.2.1
  funext j
  show V m c main_arg7 (((cfg0.win 5).blk t).view.emb j) = V m c main_arg7 j
  congr 1
  funext a; apply Fin.ext
  match a with
  | ⟨0, _⟩ => show win0_5.index t 0 * 1024 + 1 * (j 0).val = (j 0).val; rw [e0]; omega
  | ⟨1, _⟩ => show win0_5.index t 1 * 4096 + 1 * (j 1).val = (j 1).val; rw [e1]; omega

/-- The second bias, whole. -/
theorem iblk6 (c : Dev nD) (t : Fin cfg0.N) : iblk m c 6 t = V m c main_v4 := by
  obtain ⟨e0, e1⟩ := (index_eq t).2.2.2.2.2.2.1
  funext j
  show V m c main_v4 (((cfg0.win 6).blk t).view.emb j) = V m c main_v4 j
  congr 1
  funext a; apply Fin.ext
  match a with
  | ⟨0, _⟩ => show win0_6.index t 0 * 1 + 1 * (j 0).val = (j 0).val; rw [e0]; omega
  | ⟨1, _⟩ => show win0_6.index t 1 * 1024 + 1 * (j 1).val = (j 1).val; rw [e1]; omega

/-! ## The result array -/

/-- The pass on every token of device `c`'s arguments. -/
abbrev target (c : Dev nD) : FVec Ideal S4096x1024 .f32 :=
  Ffn.all (shapeCast S4096x1024 (m ((c : Thread nD τ).loc main_arg0)) shapeCasts_S2048x2x1024_S4096x1024)
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Both offsets are zero. -/
theorem zeros2 : (![0, 0] : Fin 2 → Nat) = fun _ => 0 := funext fun a => by fin_cases a <;> rfl

/-- Row `r` of what point `t` stores is the pass on token `512 t + r`. -/
theorem stored_eq (c : Dev nD) (t : Fin cfg0.N) (j : S512x1024.Idx) (h : t.val * 512 + (j 0).val < 4096) :
    (k0_pay1 (F := Ideal) (k0_pay2 (iblk m c 0 t) (iblk m c 1 t) (iblk m c 2 t) (iblk m c 3 t)) (iblk m c 4 t) (iblk m c 5 t)
      (iblk m c 6 t) j : EReal) = target m c (ix2 ⟨t.val * 512 + (j 0).val, h⟩ (j 1)) := by
  obtain ⟨r, l, rfl⟩ : ∃ (r : Fin 512) (l : Fin 1024), j = ix2 r l := ⟨j 0, j 1, by funext a; fin_cases a <;> rfl⟩
  refine (BlockValue.pay_apply (iblk m c 0 t) (iblk m c 1 t) (iblk m c 2 t) (iblk m c 3 t) (iblk m c 4 t) (iblk m c 5 t)
      (iblk m c 6 t) r l).trans ?_
  rw [iblk1, iblk2, iblk3, iblk4, iblk5, iblk6, V_v1, V_v2, V_v3, V_v4, V_main_arg3, V_main_arg7]
  have hx : (fun q : Fin 1024 => (iblk m c 0 t (ix2 r q) : EReal))
      = fun q => shapeCast S4096x1024 (m ((c : Thread nD τ).loc main_arg0)) shapeCasts_S2048x2x1024_S4096x1024
          (ix2 ⟨t.val * 512 + r.val, h⟩ q) := by
    funext q
    rw [← V_v0]
    exact iblk0 m c t (ix2 r q) h
  have h1 := funext (row4096 (m ((c : Thread nD τ).loc main_arg4)))
  have h2 := funext (row4096 (m ((c : Thread nD τ).loc main_arg5)))
  have h3 := funext (row4096 (m ((c : Thread nD τ).loc main_arg6)))
  have h4 := funext (row1024 (m ((c : Thread nD τ).loc main_arg8)))
  simp only [hx, h1, h2, h3, h4]
  rfl

/-- What point `t` writes back is block `t` of the pass on every token. -/
theorem flushed_eq (c : Dev nD) (t : Fin cfg0.N) :
    (dats m 0 c).flushed 7 t = ((cfg0.win 7).blk t).view.read (Elt Ideal) (target m c) := by
  show (cfg0.win 7).cut (grid0.coords t) ((dats m 0 c).after 7 t) = _
  rw [after0_7]
  unfold out0_7
  rw [View.canon_unit_zero zeros2, View.ld_unit_zero zeros2, View.ld_unit_zero zeros2, View.ld_unit_zero zeros2,
    View.ld_unit_zero zeros2, View.ld_unit_zero zeros2, View.ld_unit_zero zeros2, View.ld_unit_zero zeros2]
  obtain ⟨e0, e1⟩ := (index_eq t).2.2.2.2.2.2.2
  have hN : cfg0.N = 8 := N_0
  have ht := t.isLt
  funext j
  have hr : (j 0).val < 512 := (j 0).isLt
  refine (stored_eq m c t j (by omega)).trans ?_
  show target m c _ = target m c (((cfg0.win 7).blk t).view.emb j)
  congr 1
  funext a; apply Fin.ext
  match a with
  | ⟨0, _⟩ => show t.val * 512 + (j 0).val = win0_7.index t 0 * 512 + 1 * (j 0).val; rw [e0]; omega
  | ⟨1, _⟩ => show (j 1).val = win0_7.index t 1 * 1024 + 1 * (j 1).val; rw [e1]; omega

/-- An index of the result array is in point `t`'s block exactly when its row is. -/
theorem mem_blk (t : Fin cfg0.N) (i : S4096x1024.Idx) :
    i ∈ ((cfg0.win 7).blk t).view.set ↔ t.val * 512 ≤ (i 0 : Nat) ∧ (i 0 : Nat) < t.val * 512 + 512 := by
  show i ∈ ((View.whole main_v5).slice (win0_7.rect t)).set ↔ _
  rw [View.set_slice_whole, Rect.mem_set_unit]
  have h1 : (i 1 : Nat) < 1024 := (i 1).isLt
  have e : win0_7.index t 0 * win0_7.size 0 = t.val * 512 ∧ win0_7.xsize (grid0.coords t) 0 = 512
      ∧ win0_7.index t 1 * win0_7.size 1 = 0 ∧ win0_7.xsize (grid0.coords t) 1 = 1024 := by
    rcases fin_N0 t with rfl | rfl | rfl | rfl | rfl | rfl | rfl | rfl <;> decide +kernel
  refine ⟨fun h => ?_, fun h a => ?_⟩
  · have : win0_7.index t 0 * win0_7.size 0 ≤ (i 0 : Nat)
        ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat)
                  ∧ (i 0 : Nat) < win0_7.index t 0 * win0_7.size 0 + win0_7.xsize (grid0.coords t) 0
                rw [e.1, e.2.1]; exact h
    | ⟨1, _⟩ => show win0_7.index t 1 * win0_7.size 1 ≤ (i 1 : Nat)
                  ∧ (i 1 : Nat) < win0_7.index t 1 * win0_7.size 1 + win0_7.xsize (grid0.coords t) 1
                rw [e.2.2.1, e.2.2.2]; omega

/-- The blocks tile the result array. -/
theorem cover (i : S4096x1024.Idx) :
    ∃ t : Fin cfg0.N, (cfg0.win 7).flush t = true ∧ i ∈ ((cfg0.win 7).blk t).view.set := by
  have h0 : (i 0 : Nat) < 4096 := (i 0).isLt
  have hN : cfg0.N = 8 := N_0
  refine ⟨⟨(i 0 : Nat) / 512, by omega⟩, flush0_7 _, ?_⟩
  rw [mem_blk]
  dsimp only
  omega

/-- So the result array ends holding the pass on every token. -/
theorem final (c : Dev nD) : (dats m 0 c).arrAt 7 cfg0.N = target m c :=
  (dats m 0 c).arrAt_eq_of_cover 7 (target m c) (fun t _ => flushed_eq m c t) cover

/-! ## The lines after the region -/

/-- The first result: the array of passes in the arguments' shape. -/
theorem tail_v6 (c : Dev nD) : Pipeline.afterTail₀ cfgs (dats m) 0 (V0 m) [hostOps1] c main_v6
    = shapeCast S2048x2x1024 (target m c) shapeCasts_S4096x1024_S2048x2x1024 := by
  unfold Pipeline.afterTail₀
  simp only [List.flatten_cons, List.flatten_nil, List.append_nil, hostOps1]
  after_results_simp
  exact congrArg (fun x => shapeCast S2048x2x1024 x shapeCasts_S4096x1024_S2048x2x1024)
    ((Pipeline.withArrays_arr spec0 launch0.win.arr_inj c (V0 m c) (fun w => (dats m 0 c).arrAt w cfg0.N) 7).trans (final m c))

/-- The second result is zero. -/
theorem tail_cst (c : Dev nD) : Pipeline.afterTail₀ cfgs (dats m) 0 (V0 m) [hostOps1] c main_cst
    = constant (F := Ideal) S_ .f32 0x00000000#32 := by
  unfold Pipeline.afterTail₀
  simp only [List.flatten_cons, List.flatten_nil, List.append_nil, hostOps1]
  after_results_simp
  all_goals rfl

/-- The third result is zero. -/
theorem tail_cst_0 (c : Dev nD) : Pipeline.afterTail₀ cfgs (dats m) 0 (V0 m) [hostOps1] c main_cst_0
    = constant (F := Ideal) S_ .f32 0x00000000#32 := by
  unfold Pipeline.afterTail₀
  simp only [List.flatten_cons, List.flatten_nil, List.append_nil, hostOps1]
  after_results_simp
  all_goals rfl

/-- The run: the results at their values, the arguments unchanged. -/
theorem run : θ_run defs (onTc (τ := τ) (main (F := Ideal))) ⟨m, fun _ => 0, ρ⟩ fun r => ∀ c : Dev nD,
      r.2.mem ((c : Thread nD τ).loc main_v6) = shapeCast S2048x2x1024 (target m c) shapeCasts_S4096x1024_S2048x2x1024
      ∧ r.2.mem ((c : Thread nD τ).loc main_cst) = constant (F := Ideal) S_ .f32 0x00000000#32
      ∧ r.2.mem ((c : Thread nD τ).loc main_cst_0) = constant (F := Ideal) S_ .f32 0x00000000#32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c =>
      ⟨((h c).2 main_v6 (Pipeline.mem_restRefs_of main_v6 (by decide) (by decide))).trans (tail_v6 m c),
       ((h c).2 main_cst (Pipeline.mem_restRefs_of main_cst (by decide) (by decide))).trans (tail_cst m c),
       ((h c).2 main_cst_0 (Pipeline.mem_restRefs_of main_cst_0 (by decide) (by decide))).trans (tail_cst_0 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).1 1).trans (((dats m 0 c).arrAt_in 1 rfl _).trans ((A_eq m c 1).trans (V_main_arg3 m c))),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c),
       ((h c).1 5).trans (((dats m 0 c).arrAt_in 5 rfl _).trans ((A_eq m c 5).trans (V_main_arg7 m c))),
       ((h c).2 main_arg8 (Pipeline.mem_restRefs_of main_arg8 (by decide) (by decide))).trans (W_main_arg8 m (dats m) c)⟩)
    (run_main m ρ)

end Cert.KernelIdeal.ArrayValue
-- ==== Proof.Routing.lean ====
/-
  Routing to a single expert moves nothing: sorting equal keys, taking at the numbers in order, and adding rows at
  the numbers in order each leave their rows where they are.
-/
module

public import proofs.«01_k».proof.Proof.Spec
public import proofs.«01_k».proof.Proof.Gen.ReferenceIdeal
public import Idealize.ShloMosaic.Lib.ReduceAll
public import Idealize.ShloMosaic.Lib.Routing.Ops
public import Idealize.ShloMosaic.Lib.Routing.OpsSet
public import Idealize.ShloMosaic.Lib.Routing.OpsPair

@[expose] public section

set_option maxRecDepth 16384

noncomputable section

open Idealize.ShloMosaic

namespace Cert.Ffn.Route

open Cert.ReferenceIdeal Cert.ReferenceIdeal.Gen

/-! ## Sorting -/

/-- A sort under which no key comes before another leaves the list as it is. -/
theorem stableSort_never {ι : Type} (before : ι → ι → Bool) (h : ∀ a b, before a b = false) (l : List ι) :
    stableSort before l = l := by
  induction l with
  | nil => rfl
  | cons a l ih =>
    rw [stableSort, ih]
    cases l with
    | nil => rfl
    | cons b l => rw [insertBefore, if_neg (by rw [h]; exact Bool.false_ne_true)]

/-- So every position keeps its element. -/
theorem sortedFrom_never {n : Nat} (before : Fin n → Fin n → Bool) (h : ∀ a b, before a b = false) (k : Fin n) :
    sortedFrom before k = k := by
  have e : sortPositions n before = List.finRange n := stableSort_never before h _
  unfold sortedFrom
  rw [List.get_of_eq e]
  apply Fin.ext
  simp

/-- Sorting a column of equal words by "less than" leaves the column it carries as it is. -/
theorem sort_equal (x y : IVec S4096 32) (hx : ∀ i, x i = 0#32) :
    (Host.sort2 S4096 0 comparator_i32_i32_d0 x y).2 = y := by
  unfold Host.sort2
  rw [dif_pos (show 0 < S4096.rank from Nat.one_pos)]
  funext j
  dsimp only
  rw [sortedFrom_never _ (fun a b => by simp only [comparator_i32_i32_d0, hx]; decide)]
  congr 1
  exact Function.update_eq_self _ _

/-- The best of one entry is the entry, -/
theorem top_value (x : FVec Ideal S4096x1 .f32) (h) : (Host.topK S4096x1 1 (FloatOps.cmpfTotal .gt) x h).1 = x := by
  funext j
  unfold Host.topK Host.sort2
  dsimp only
  rw [dif_pos (show 1 < S4096x1.rank from Nat.one_lt_two)]
  dsimp only [extractStridedSlice]
  congr 1
  funext a
  match a with
  | ⟨0, _⟩ =>
    apply Fin.ext
    simp only [Shape.Idx.along]
    rw [Function.update_of_ne (by exact (by decide : (0 : Fin 2) ≠ 1))]
    exact Nat.zero_add _
  | ⟨1, _⟩ => exact Subsingleton.elim (α := Fin 1) _ _

/-- at place 0. -/
theorem top_place (x : FVec Ideal S4096x1 .f32) (h) (j : S4096x1.Idx) :
    (Host.topK S4096x1 1 (FloatOps.cmpfTotal .gt) x h).2 j = 0#32 := by
  have e : ∀ k : Fin 1, k.val = 0 := fun k => by omega
  unfold Host.topK Host.sort2
  dsimp only
  rw [dif_pos (show 1 < S4096x1.rank from Nat.one_lt_two)]
  dsimp only [extractStridedSlice]
  rw [dif_pos (show 1 < S4096x1.rank from Nat.one_lt_two)]
  exact congrArg (BitVec.ofNat 32) (e _)

/-! ## Indices -/

/-- The words `0, 1, 2, …` in a column of 4096. -/
def Counts (v : IVec S4096 32) : Prop := ∀ p : Fin 4096, v (ix1 p) = BitVec.ofNat 32 p.val

/-- The same with a unit axis behind. -/
def Counts2 (v : IVec S4096x1 32) : Prop := ∀ (p : Fin 4096) (q : Fin 1), v (ix2 p q) = BitVec.ofNat 32 p.val

/-- Wrapping negative indices leaves the numbers in order as they are. -/
theorem wrap_counts (v : IVec S4096 32) (hv : Counts v) (h0 h1 h2) :
    Counts2 (broadcastInDim S4096x1 ![0] h2 (select (cmpi .slt v (broadcastInDim S4096 ![] h0 (constantI S_ 32 0#32)))
      (addi v (broadcastInDim S4096 ![] h1 (constantI S_ 32 4096#32))) v)) := by
  intro p q
  have hp := p.isLt
  have e : broadcastInDim S4096x1 ![0] h2 (select (cmpi .slt v (broadcastInDim S4096 ![] h0 (constantI S_ 32 0#32)))
      (addi v (broadcastInDim S4096 ![] h1 (constantI S_ 32 4096#32))) v) (ix2 p q)
      = Scalar.select (IntOp.cmpi .slt (v (ix1 p)) 0#32) (IntOp.addi (v (ix1 p)) 4096#32) (v (ix1 p)) := by pointwise
  refine e.trans ((Routing.wrap_of_lt (v (ix1 p)) _ ?_).trans (hv p))
  rw [hv p, BitVec.toNat_ofNat]
  omega

/-- The numbers in order are all in range. -/
theorem inRange (v : IVec S4096x1 32) (hv : Counts2 v) (h0 h1 h2) (h3 : S4096x1.ReducesTo [1] S4096) (hu) (j : S4096.Idx) :
    Host.reduce IntOp.andi (andi (cmpi .sge v (broadcastInDim S4096x1 ![] h0 (constantI S_ 32 0#32)))
      (cmpi .sle v (broadcastInDim S4096x1 ![0, 1] h1 (broadcastInDim S1x1 ![1] h2 (constantI S1 32 4095#32)))))
      (constantI S_ 1 1#1) h3 hu j = 1#1 := by
  refine Host.reduce_andi_one _ _ h3 hu j rfl fun i => ?_
  obtain ⟨p, q, rfl⟩ : ∃ (p : Fin 4096) (q : Fin 1), i = ix2 p q := ⟨i 0, i 1, by funext a; fin_cases a <;> rfl⟩
  have hp := p.isLt
  show IntOp.andi (IntOp.cmpi .sge (v (ix2 p q)) (BitVec.ofNat 32 0)) (IntOp.cmpi .sle (v (ix2 p q)) (BitVec.ofNat 32 4095)) = 1#1
  rw [hv, (WordCmp.cmpi_sge_ofNat_eq_one_iff (by omega) (by omega)).2 (Nat.zero_le _),
    (WordCmp.cmpi_sle_ofNat_eq_one_iff (by omega) (by omega)).2 (by omega)]
  rfl

/-- Taking from a vector at the numbers in order gives the vector. -/
theorem take_vector {α : Type} (x : S4096.Idx → α) (v : IVec S4096x1 32) (hv : Counts2 v) (p : Fin 4096) :
    Host.gather gather_S4096_S4096x1_S4096_n_0_n_n_0_1_1 x v (ix1 p) = x (ix1 p) :=
  Routing.gather_take1 _ rfl rfl rfl rfl x v p p (hv p 0) (by omega)

/-- Taking the rows of an array at the numbers in order gives the array. -/
theorem take_rows {α : Type} (x : S4096x1024.Idx → α) (v : IVec S4096x1 32) (hv : Counts2 v) (p : Fin 4096) (l : Fin 1024) :
    Host.gather gather_S4096x1024_S4096x1_S4096x1024_1_0_n_n_0_1_11024 x v (ix2 p l) = x (ix2 p l) :=
  Routing.gather_row _ rfl rfl rfl rfl rfl x v p l p (hv p 0) (by omega)

/-- Row `p` of the updates at the numbers in order lands on row `p` of the array. -/
theorem lands (v : IVec S4096x1 32) (hv : Counts2 v) (k : S4096x1024.Idx) :
    scatter_S4096x1024_S4096x1_S4096x1024_1_0_0_1.resultIdx? k v = some k := by
  obtain ⟨p, l, rfl⟩ : ∃ (p : Fin 4096) (l : Fin 1024), k = ix2 p l := ⟨k 0, k 1, by funext a; fin_cases a <;> rfl⟩
  have hp := p.isLt
  refine (Routing.resultIdx?_ix2 _ _ v p l).2 ⟨?_, ?_⟩
  · have hs : scatter_S4096x1024_S4096x1_S4096x1024_1_0_0_1.start (ix2 p l) v 0 = (v (ix2 p 0)).toInt := by
      unfold ScatterDims.start
      rw [dif_pos (show (0 : Fin 2) ∈ scatter_S4096x1024_S4096x1_S4096x1024_1_0_0_1.scatterDimsToOperandDims from
        List.mem_singleton.mpr rfl)]
      congr 2
      funext b; apply Fin.ext
      match b with
      | ⟨0, _⟩ => rfl
      | ⟨1, _⟩ => rfl
    rw [hs, hv, StableHlo.Predicate.toInt_ofNat_small _ (by omega)]
    have hw : scatter_S4096x1024_S4096x1_S4096x1024_1_0_0_1.window (ix2 p l) 0 = 0 := rfl
    rw [hw]; simp
  · have hs : scatter_S4096x1024_S4096x1_S4096x1024_1_0_0_1.start (ix2 p l) v 1 = 0 := rfl
    have hw : scatter_S4096x1024_S4096x1_S4096x1024_1_0_0_1.window (ix2 p l) 1 = l.val := rfl
    rw [hs, hw]; simp

/-- Adding rows to an array at the numbers in order adds the two arrays. -/
theorem add_rows (x u : FVec Ideal S4096x1024 .f32) (v : IVec S4096x1 32) (hv : Counts2 v) (i : S4096x1024.Idx) :
    (Host.scatterAdd scatter_S4096x1024_S4096x1_S4096x1024_1_0_0_1 x v u i : EReal) = x i + u i := by
  show x i + ∑ j ∈ Finset.univ.filter (fun j => scatter_S4096x1024_S4096x1_S4096x1024_1_0_0_1.resultIdx? j v = some i), u j = _
  congr 1
  rw [Finset.filter_congr (fun j _ => by rw [lands v hv j, Option.some_inj]), Finset.sum_filter, Finset.sum_ite_eq' Finset.univ i u]
  simp

end Cert.Ffn.Route
-- ==== Proof.ReferenceIndex.lean ====
/-
  The routing indices of the reference: every token keeps its place, whatever the arguments.
-/
module

public import proofs.«01_k».proof.Proof.Routing
public import proofs.«01_k».proof.Proof.Gen.ReferenceIdeal.Run

@[expose] public section

set_option maxRecDepth 16384

noncomputable section

open Idealize.ShloMosaic

namespace Cert.ReferenceIdeal.RefValue

open Cert.ReferenceIdeal Cert.ReferenceIdeal.Gen Cert.ReferenceIdeal.Value Cert.Ffn.Route

variable (V0 : Valuation τ sig (Elt Ideal))

/-- Every token's best expert is number 0, the only one. -/
theorem expert (i : S4096.Idx) : res_main_v18 V0 i = 0#32 := by
  unfold res_main_v18 shapeCast
  exact top_place _ _ _

/-- So the sorted order is the order of the tokens. -/
theorem order : Counts (res_main_v20 V0) := by
  intro p
  unfold res_main_v20
  rw [sort_equal _ _ (expert V0)]
  rfl

/-- The index column the reference takes at is the numbers in order: the negative-index wrap changes none. -/
theorem order_wrapped1 : Counts2 (res_main_call1_v5 V0) := wrap_counts _ (order V0) _ _ _
/-- The index column the reference takes at is the numbers in order: the negative-index wrap changes none. -/
theorem order_wrapped2 : Counts2 (res_main_call2_v5 V0) := wrap_counts _ (order V0) _ _ _

/-- A choice by a mask that is set everywhere is the first array. -/
theorem select_all {s : Shape} {α : Type} (c : IVec s 1) (x y : s.Idx → α) (i : s.Idx) (hc : c i = 1#1) :
    select c x y i = x i := by
  show Scalar.select (c i) (x i) (y i) = x i
  rw [hc]; rfl

/-- The token at each place of the sorted order is the token of that number. -/
theorem token_number : Counts (res_main_v21 V0) := by
  intro p
  unfold res_main_v21
  rw [select_all _ _ _ _ (inRange _ (order_wrapped1 V0) _ _ _ _ _ _), take_vector _ _ (order_wrapped1 V0)]
  pointwise

/-- The index column the reference takes at is the numbers in order: the negative-index wrap changes none. -/
theorem order_wrapped3 : Counts2 (res_main_call3_v5 V0) := wrap_counts _ (token_number V0) _ _ _

end Cert.ReferenceIdeal.RefValue
-- ==== Proof.Equation.lean ====
/-
  The scalar equations between the two ways of writing the pass: the Gaussian tail against the error function, and
  the quotient by a square root against the product with the reciprocal square root.
-/
module

public import proofs.«01_k».proof.Proof.Spec

@[expose] public section

set_option maxRecDepth 16384

noncomputable section

open Idealize.ShloMosaic

namespace Cert.Ffn

/-- The pattern of 4096 is the number 4096. -/
theorem count_eq : count = ((4096 : ℝ) : EReal) := by
  simp [count, Ideal.ofBits, Ideal.ieee]
  rw [← EReal.coe_mul]
  norm_num

/-- The small number added to the variance is positive. -/
theorem eps_pos : 0 < eps := by
  simp [eps, Ideal.ofBits, Ideal.ieee]
  rw [← EReal.coe_mul]
  exact EReal.coe_pos.mpr (by norm_num)

/-- GELU by the complementary error function of the negated argument. -/
theorem gelu_eq (h : EReal) : half * h * Ideal.erfc (-h * rootHalf) = gelu h := by
  unfold gelu
  rw [EReal.neg_mul]
  congr 1
  simp [Ideal.erfc_neg]

/-- A square is not negative. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- The variance is not negative. -/
theorem var_nonneg (a : Fin 4096 → EReal) : 0 ≤ var a := by
  unfold var
  have hs : 0 ≤ ∑ k : Fin 4096, (a k - mean a) * (a k - mean a) := Finset.sum_nonneg fun k _ => square_nonneg _
  rw [count_eq, Ideal.div_coe (by norm_num : (4096 : ℝ) ≠ 0)]
  exact mul_nonneg hs (EReal.coe_nonneg.mpr (by norm_num))

/-- For a positive `a`, dividing by the square root of `a` is multiplying by its reciprocal square root. -/
theorem div_sqrt (x a : EReal) (ha : 0 < a) : Ideal.div x (Ideal.sqrt a) = x * Ideal.rsqrt a := by
  induction a with
  | bot => exact absurd ha (by simp)
  | top =>
    show Ideal.div x ⊤ = x * 0
    simp [Ideal.div]
  | coe r =>
    have hr : 0 < r := by exact_mod_cast ha
    have hs : √r ≠ 0 := (Real.sqrt_pos.mpr hr).ne'
    rw [Ideal.sqrt_coe, Ideal.rsqrt_coe]
    rw [if_neg (not_lt.mpr hr.le), if_neg (not_lt.mpr hr.le), if_neg hr.ne', Ideal.div_coe hs, one_div]

/-- So normalising by the quotient is normalising by the product. -/
theorem norm_eq (a : Fin 4096 → EReal) (x : EReal) :
    Ideal.div x (Ideal.sqrt (var a + eps)) = x * Ideal.rsqrt (var a + eps) :=
  div_sqrt _ _ (lt_of_lt_of_le eps_pos (le_add_of_nonneg_left (var_nonneg a)))

/-- The softmax of one finite score is one. -/
theorem softmax_one (s : EReal) (h1 : s ≠ ⊤) (h2 : s ≠ ⊥) : Ideal.div (Ideal.exp (s - s)) (Ideal.exp (s - s)) = 1 := by
  induction s with
  | bot => exact absurd rfl h2
  | top => exact absurd rfl h1
  | coe r =>
    have e : Ideal.exp ((r : EReal) - r) = ((1 : ℝ) : EReal) := by
      rw [← EReal.coe_sub, sub_self]
      show ((Real.exp 0 : ℝ) : EReal) = _
      rw [Real.exp_zero]
    rw [e, Ideal.div_coe one_ne_zero, ← EReal.coe_mul]
    norm_num

end Cert.Ffn
-- ==== Proof.ReferenceValue.lean ====
/-
  What the reference computes: the pass on every token, times the softmax of the token's one gate score.
-/
module

public import proofs.«01_k».proof.Proof.ReferenceIndex
public import proofs.«01_k».proof.Proof.Equation
public import Idealize.ShloMosaic.Lib.KernelVsHost

@[expose] public section

set_option maxRecDepth 16384

noncomputable section

open Idealize.ShloMosaic

namespace Cert.ReferenceIdeal.RefValue

open Cert.ReferenceIdeal Cert.ReferenceIdeal.Gen Cert.ReferenceIdeal.Value Cert.Ffn.Route

variable (V0 : Valuation τ sig (Elt Ideal))

/-! ## The two layers -/

/-- The hidden features of token `i` before the activation. -/
abbrev pre (i : Fin 4096) : Fin 4096 → EReal :=
  Ffn.hidden (fun q => res_main_v0 V0 (ix2 i q))
    (fun k q => (V0 (Proc.devRef .tc main_arg3) : FVec Ideal S4096x1024 .f32) (ix2 k q))
    (fun k => (V0 (Proc.devRef .tc main_arg4) : FVec Ideal S4096 .f32) (ix1 k))

/-- The hidden features of token `i`. -/
abbrev act (i : Fin 4096) : Fin 4096 → EReal := fun k => Ffn.gelu (pre V0 i k)

/-- The first linear layer, of the tokens the routing has taken. -/
theorem v28_apply (i k : Fin 4096) : (res_main_v28 V0 (ix2 i k) : EReal) = pre V0 i k := by
  unfold res_main_v28
  rw [show (Host.reduce IntOp.andi (andi (cmpi .sge (res_main_call3_v5 V0) (broadcastInDim S4096x1 ![] bcast_S_S4096x1 (constantI S_ 32 0#32))) (cmpi .sle (res_main_call3_v5 V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_)
    = (fun _ => 1#1 : IVec S4096 1) from funext (inRange _ (order_wrapped3 V0) _ _ _ _ _)]
  have ht : (select (broadcastInDim S4096x1024 ![0] bcast_S4096_S4096x1024_0 (fun _ => 1#1 : IVec S4096 1))
      (Host.gather gather_S4096x1024_S4096x1_S4096x1024_1_0_n_n_0_1_11024 (res_main_v0 V0) (res_main_call3_v5 V0))
      (broadcastInDim S4096x1024 ![] bcast_S_S4096x1024 (constant (F := Ideal) S_ .f32 0x7FC00000#32))) = res_main_v0 V0 := by
    funext j
    obtain ⟨p, l, rfl⟩ : ∃ (p : Fin 4096) (l : Fin 1024), j = ix2 p l := ⟨j 0, j 1, by funext a; fin_cases a <;> rfl⟩
    rw [select_all _ _ _ _ rfl, take_rows _ _ (order_wrapped3 V0)]
  rw [ht]
  pointwise [pre, Ffn.hidden]

/-- The activation. -/
theorem v35_apply (i k : Fin 4096) : (res_main_v35 V0 (ix2 i k) : EReal) = act V0 i k := by
  refine Eq.trans ?_ (Ffn.gelu_eq (pre V0 i k))
  unfold res_main_v35
  pointwise
  rw [v28_apply]

/-- The mean of the features of token `i`, as the reference sums it. -/
theorem mean_apply (i : Fin 4096) (q : Fin 1) :
    (Host.divf (broadcastInDim S4096x1 ![0] bcast_S4096_S4096x1_0 (Host.reduceAdd (res_main_v35 V0) (constant S_ .f32 0x00000000#32) reducesTo_S4096x4096_S4096_d1 h_S_)) (broadcastInDim S4096x1 ![] bcast_S_S4096x1 (constant (F := Ideal) S_ .f32 0x45800000#32)) (ix2 i q) : EReal)
      = Ffn.mean (act V0 i) := by
  pointwise [Ffn.mean]
  simp only [v35_apply]

/-- A feature's distance from the mean. -/
theorem call4_v5_apply (i k : Fin 4096) :
    (res_main_call4_v5 V0 (ix2 i k) : EReal) = act V0 i k - Ffn.mean (act V0 i) := by
  unfold res_main_call4_v5
  generalize hM : Host.divf (broadcastInDim S4096x1 ![0] bcast_S4096_S4096x1_0 (Host.reduceAdd (res_main_v35 V0) (constant S_ .f32 0x00000000#32) reducesTo_S4096x4096_S4096_d1 h_S_)) (broadcastInDim S4096x1 ![] bcast_S_S4096x1 (constant (F := Ideal) S_ .f32 0x45800000#32)) = M
  pointwise
  rw [v35_apply, ← hM, mean_apply]

/-- The number of features less the zero degrees of freedom is the number of features. -/
theorem call4_v8_apply : (res_main_call4_v8 V0 : S_.Idx → EReal) = fun _ => Ffn.count := by
  funext j
  unfold res_main_call4_v8
  pointwise
  exact (congrArg (Ideal.ofBits .f32 0x45800000#32 - ·) sitofp_zero).trans (sub_zero _)

/-- The variance of the features of token `i`. -/
theorem var_apply (i : Fin 4096) (q : Fin 1) :
    (select (broadcastInDim S4096x1 ![] bcast_S_S4096x1 (cmpf .ogt (res_main_call4_v8 V0) (constant S_ .f32 0x00000000#32))) (Host.divf (broadcastInDim S4096x1 ![0] bcast_S4096_S4096x1_0 (Host.reduceAdd (mulf (res_main_call4_v5 V0) (res_main_call4_v5 V0)) (constant S_ .f32 0x00000000#32) reducesTo_S4096x4096_S4096_d1 h_S_)) (broadcastInDim S4096x1 ![] bcast_S_S4096x1 (res_main_call4_v8 V0))) (broadcastInDim S4096x1 ![] bcast_S_S4096x1 (id (constant (F := Ideal) S_ .f32 0x7FC00000#32))) (ix2 i q) : EReal)
      = Ffn.var (act V0 i) := by
  have hc : (0 : EReal) < Ffn.count := by rw [Ffn.count_eq]; exact EReal.coe_pos.mpr (by norm_num)
  rw [select_all _ _ _ _ (by
    pointwise
    rw [call4_v8_apply]
    simp [hc])]
  pointwise [Ffn.var]
  simp only [call4_v5_apply, call4_v8_apply]

/-! ## The gate -/

/-- The gate score of token `p`. -/
abbrev score (p : Fin 4096) : EReal := (res_main_v5 V0 : FVec Ideal S4096x1 .f32) (ix2 p 0)

/-- The greatest of a column's one entry, from negative infinity, is the entry. -/
theorem column_max (s : FVec Ideal S4096x1 .f32) (h : S4096x1.ReducesTo [1] S4096) (hu : 0 < S_.numel) (p : Fin 4096) :
    (Host.reduce (FloatOps.maximumf (F := Ideal) (φ := .f32)) s (constant (F := Ideal) S_ .f32 0xFF800000#32) h hu (ix1 p) : EReal) = s (ix2 p 0) := by
  pointwise
  rw [Finset.univ_unique, Finset.fold_singleton]
  have hb : Ideal.ofBits .f32 0xFF800000#32 = ⊥ := by simp [Ideal.ofBits, Ideal.ieee]
  rw [hb, max_eq_left bot_le]
  rfl

/-- The softmax of one finite score is one. -/
theorem v14_apply (h : ∀ p, score V0 p ≠ ⊤ ∧ score V0 p ≠ ⊥) (p : Fin 4096) (q : Fin 1) :
    (res_main_v14 V0 : FVec Ideal S4096x1 .f32) (ix2 p q) = (1 : EReal) := by
  obtain rfl : q = 0 := Subsingleton.elim _ _
  have e : ((res_main_v11 V0 : FVec Ideal S4096x1 .f32) (ix2 p 0) : EReal) = Ideal.exp (score V0 p - score V0 p) := by
    unfold res_main_v11
    generalize hM : Host.reduce FloatOps.maximumf (res_main_v5 V0) (constant (F := Ideal) S_ .f32 0xFF800000#32) reducesTo_S4096x1_S4096_d1 h_S_ = M
    pointwise
    rw [← hM, column_max]
    have hb : Ideal.ofBits .f32 0xFF800000#32 = ⊥ := by simp [Ideal.ofBits, Ideal.ieee]
    rw [hb, max_eq_right bot_le]
  have u : ∀ (x : FVec Ideal S4096x1 .f32) (h1 : S4096.BroadcastsInDim S4096x1 ![0]) (h2 : S4096x1.ReducesTo [1] S4096) (h3 : 0 < S_.numel), (Host.divf x (broadcastInDim S4096x1 ![0] h1
      (Host.reduceAdd x (constant (F := Ideal) S_ .f32 0x00000000#32) h2 h3)) (ix2 p 0) : EReal)
      = Ideal.div (x (ix2 p 0)) (x (ix2 p 0)) := by
    intro x h1 h2 h3
    pointwise
    simp
  unfold res_main_v14
  rw [u, e]
  exact Ffn.softmax_one _ (h p).1 (h p).2

/-- The gate every token is multiplied by is one. -/
theorem gate_apply (h : ∀ p, score V0 p ≠ ⊤ ∧ score V0 p ≠ ⊥) (p : Fin 4096) (q : Fin 1024) :
    (broadcastInDim S4096x1024 ![0, 1] bcast_S4096x1_S4096x1024_0_1 (broadcastInDim S4096x1 ![0] bcast_S4096_S4096x1_0 (select (Host.reduce IntOp.andi (andi (cmpi .sge (res_main_call2_v5 V0) (broadcastInDim S4096x1 ![] bcast_S_S4096x1 (constantI S_ 32 0#32))) (cmpi .sle (res_main_call2_v5 V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_) (Host.gather gather_S4096_S4096x1_S4096_n_0_n_n_0_1_1 (shapeCast _ ((Host.topK S4096x1 1 (FloatOps.cmpfTotal .gt) (res_main_v14 V0) sliceFits_S4096x1_S4096x1).1) shapeCasts_S4096x1_S4096) (res_main_call2_v5 V0)) (broadcastInDim S4096 ![] bcast_S_S4096 (constant (F := Ideal) S_ .f32 0x7FC00000#32)))) (ix2 p q) : EReal) = 1 := by
  generalize hG : select (Host.reduce IntOp.andi (andi (cmpi .sge (res_main_call2_v5 V0) (broadcastInDim S4096x1 ![] bcast_S_S4096x1 (constantI S_ 32 0#32))) (cmpi .sle (res_main_call2_v5 V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_) (Host.gather gather_S4096_S4096x1_S4096_n_0_n_n_0_1_1 (shapeCast _ ((Host.topK S4096x1 1 (FloatOps.cmpfTotal .gt) (res_main_v14 V0) sliceFits_S4096x1_S4096x1).1) shapeCasts_S4096x1_S4096) (res_main_call2_v5 V0)) (broadcastInDim S4096 ![] bcast_S_S4096 (constant (F := Ideal) S_ .f32 0x7FC00000#32)) = G
  have e : (broadcastInDim S4096x1024 ![0, 1] bcast_S4096x1_S4096x1024_0_1 (broadcastInDim S4096x1 ![0] bcast_S4096_S4096x1_0 G) (ix2 p q) : EReal) = G (ix1 p) := by
    pointwise
  rw [e, ← hG, select_all _ _ _ _ (inRange _ (order_wrapped2 V0) _ _ _ _ _ _), take_vector _ _ (order_wrapped2 V0), top_value]
  have c : ∀ (x : FVec Ideal S4096x1 .f32), (shapeCast S4096 x shapeCasts_S4096x1_S4096 (ix1 p) : EReal) = x (ix2 p 0) := by
    intro x
    pointwise
  rw [c]
  exact v14_apply V0 h p 0

/-! ## The normalisation and the second layer -/

/-- A normalised feature of token `i`. -/
theorem norm_apply (i k : Fin 4096) :
    (addf (mulf (Host.divf (subf (res_main_v35 V0) (broadcastInDim S4096x4096 ![0, 1] bcast_S4096x1_S4096x4096_0_1 (Host.divf (broadcastInDim S4096x1 ![0] bcast_S4096_S4096x1_0 (Host.reduceAdd (res_main_v35 V0) (constant (F := Ideal) S_ .f32 0x00000000#32) reducesTo_S4096x4096_S4096_d1 h_S_)) (broadcastInDim S4096x1 ![] bcast_S_S4096x1 (constant (F := Ideal) S_ .f32 0x45800000#32))))) (broadcastInDim S4096x4096 ![0, 1] bcast_S4096x1_S4096x4096_0_1 (Host.sqrt (addf (select (broadcastInDim S4096x1 ![] bcast_S_S4096x1 (cmpf .ogt (res_main_call4_v8 V0) (constant (F := Ideal) S_ .f32 0x00000000#32))) (Host.divf (broadcastInDim S4096x1 ![0] bcast_S4096_S4096x1_0 (Host.reduceAdd (mulf (res_main_call4_v5 V0) (res_main_call4_v5 V0)) (constant (F := Ideal) S_ .f32 0x00000000#32) reducesTo_S4096x4096_S4096_d1 h_S_)) (broadcastInDim S4096x1 ![] bcast_S_S4096x1 (res_main_call4_v8 V0))) (broadcastInDim S4096x1 ![] bcast_S_S4096x1 (id (constant (F := Ideal) S_ .f32 0x7FC00000#32)))) (broadcastInDim S4096x1 ![] bcast_S_S4096x1 (constant (F := Ideal) S_ .f32 0x3727C5AC#32)))))) (broadcastInDim S4096x4096 ![0, 1] bcast_S1x4096_S4096x4096_0_1 (broadcastInDim S1x4096 ![1] bcast_S4096_S1x4096_1 (V0 (Proc.devRef .tc main_arg5))))) (broadcastInDim S4096x4096 ![0, 1] bcast_S1x4096_S4096x4096_0_1 (broadcastInDim S1x4096 ![1] bcast_S4096_S1x4096_1 (V0 (Proc.devRef .tc main_arg6)))) (ix2 i k) : EReal)
      = Ffn.norm (act V0 i) (fun k => (V0 (Proc.devRef .tc main_arg5) : FVec Ideal S4096 .f32) (ix1 k))
          (fun k => (V0 (Proc.devRef .tc main_arg6) : FVec Ideal S4096 .f32) (ix1 k)) k := by
  generalize hM : Host.divf (broadcastInDim S4096x1 ![0] bcast_S4096_S4096x1_0 (Host.reduceAdd (res_main_v35 V0) (constant (F := Ideal) S_ .f32 0x00000000#32) reducesTo_S4096x4096_S4096_d1 h_S_)) (broadcastInDim S4096x1 ![] bcast_S_S4096x1 (constant (F := Ideal) S_ .f32 0x45800000#32)) = M
  generalize hS : select (broadcastInDim S4096x1 ![] bcast_S_S4096x1 (cmpf .ogt (res_main_call4_v8 V0) (constant (F := Ideal) S_ .f32 0x00000000#32))) (Host.divf (broadcastInDim S4096x1 ![0] bcast_S4096_S4096x1_0 (Host.reduceAdd (mulf (res_main_call4_v5 V0) (res_main_call4_v5 V0)) (constant (F := Ideal) S_ .f32 0x00000000#32) reducesTo_S4096x4096_S4096_d1 h_S_)) (broadcastInDim S4096x1 ![] bcast_S_S4096x1 (res_main_call4_v8 V0))) (broadcastInDim S4096x1 ![] bcast_S_S4096x1 (id (constant (F := Ideal) S_ .f32 0x7FC00000#32))) = S
  pointwise [Ffn.norm]
  rw [v35_apply, ← hM, mean_apply, ← hS, var_apply]
  rw [← Ffn.norm_eq]

/-- The reference's array of tokens: the pass on every token. -/
theorem value (h : ∀ p, score V0 p ≠ ⊤ ∧ score V0 p ≠ ⊥) :
    (Host.scatterAdd scatter_S4096x1024_S4096x1_S4096x1024_1_0_0_1 (broadcastInDim S4096x1024 ![] bcast_S_S4096x1024 (constant (F := Ideal) S_ .f32 0x00000000#32)) (broadcastInDim S4096x1 ![0] bcast_S4096_S4096x1_0 (select (cmpi .slt (res_main_v21 V0) (broadcastInDim S4096 ![] bcast_S_S4096 (constantI S_ 32 0#32))) (addi (res_main_v21 V0) (broadcastInDim S4096 ![] bcast_S_S4096 (constantI S_ 32 4096#32))) (res_main_v21 V0))) (mulf (addf (Host.dotGeneral (φ₂ := .f32) dot_S4096x4096_S4096x1024_S4096x1024_1_0_0_1_n_n none (addf (mulf (Host.divf (subf (res_main_v35 V0) (broadcastInDim S4096x4096 ![0, 1] bcast_S4096x1_S4096x4096_0_1 (Host.divf (broadcastInDim S4096x1 ![0] bcast_S4096_S4096x1_0 (Host.reduceAdd (res_main_v35 V0) (constant (F := Ideal) S_ .f32 0x00000000#32) reducesTo_S4096x4096_S4096_d1 h_S_)) (broadcastInDim S4096x1 ![] bcast_S_S4096x1 (constant (F := Ideal) S_ .f32 0x45800000#32))))) (broadcastInDim S4096x4096 ![0, 1] bcast_S4096x1_S4096x4096_0_1 (Host.sqrt (addf (select (broadcastInDim S4096x1 ![] bcast_S_S4096x1 (cmpf .ogt (res_main_call4_v8 V0) (constant (F := Ideal) S_ .f32 0x00000000#32))) (Host.divf (broadcastInDim S4096x1 ![0] bcast_S4096_S4096x1_0 (Host.reduceAdd (mulf (res_main_call4_v5 V0) (res_main_call4_v5 V0)) (constant (F := Ideal) S_ .f32 0x00000000#32) reducesTo_S4096x4096_S4096_d1 h_S_)) (broadcastInDim S4096x1 ![] bcast_S_S4096x1 (res_main_call4_v8 V0))) (broadcastInDim S4096x1 ![] bcast_S_S4096x1 (id (constant (F := Ideal) S_ .f32 0x7FC00000#32)))) (broadcastInDim S4096x1 ![] bcast_S_S4096x1 (constant (F := Ideal) S_ .f32 0x3727C5AC#32)))))) (broadcastInDim S4096x4096 ![0, 1] bcast_S1x4096_S4096x4096_0_1 (broadcastInDim S1x4096 ![1] bcast_S4096_S1x4096_1 (V0 (Proc.devRef .tc main_arg5))))) (broadcastInDim S4096x4096 ![0, 1] bcast_S1x4096_S4096x4096_0_1 (broadcastInDim S1x4096 ![1] bcast_S4096_S1x4096_1 (V0 (Proc.devRef .tc main_arg6))))) (transpose (α := Ideal .f32) S4096x1024 [1, 0] (V0 (Proc.devRef .tc main_arg7)) transposes_S1024x4096_S4096x1024_1_0)) (broadcastInDim S4096x1024 ![0, 1] bcast_S1x1024_S4096x1024_0_1 (broadcastInDim S1x1024 ![1] bcast_S1024_S1x1024_1 (V0 (Proc.devRef .tc main_arg8))))) (broadcastInDim S4096x1024 ![0, 1] bcast_S4096x1_S4096x1024_0_1 (broadcastInDim S4096x1 ![0] bcast_S4096_S4096x1_0 (select (Host.reduce IntOp.andi (andi (cmpi .sge (res_main_call2_v5 V0) (broadcastInDim S4096x1 ![] bcast_S_S4096x1 (constantI S_ 32 0#32))) (cmpi .sle (res_main_call2_v5 V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_) (Host.gather gather_S4096_S4096x1_S4096_n_0_n_n_0_1_1 (shapeCast _ ((Host.topK S4096x1 1 (FloatOps.cmpfTotal .gt) (res_main_v14 V0) sliceFits_S4096x1_S4096x1).1) shapeCasts_S4096x1_S4096) (res_main_call2_v5 V0)) (broadcastInDim S4096 ![] bcast_S_S4096 (constant (F := Ideal) S_ .f32 0x7FC00000#32))))))) =
      Ffn.all (res_main_v0 V0) (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8)) := by
  funext i
  obtain ⟨p, q, rfl⟩ : ∃ (p : Fin 4096) (q : Fin 1024), i = ix2 p q := ⟨i 0, i 1, by funext a; fin_cases a <;> rfl⟩
  rw [add_rows _ _ _ (wrap_counts _ (token_number V0) _ _ _)]
  generalize hG : broadcastInDim S4096x1024 ![0, 1] bcast_S4096x1_S4096x1024_0_1 (broadcastInDim S4096x1 ![0] bcast_S4096_S4096x1_0 (select (Host.reduce IntOp.andi (andi (cmpi .sge (res_main_call2_v5 V0) (broadcastInDim S4096x1 ![] bcast_S_S4096x1 (constantI S_ 32 0#32))) (cmpi .sle (res_main_call2_v5 V0) (broadcastInDim S4096x1 ![0, 1] bcast_S1x1_S4096x1_0_1 (broadcastInDim S1x1 ![1] bcast_S1_S1x1_1 (constantI S1 32 4095#32))))) (constantI S_ 1 1#1) reducesTo_S4096x1_S4096_d1 h_S_) (Host.gather gather_S4096_S4096x1_S4096_n_0_n_n_0_1_1 (shapeCast _ ((Host.topK S4096x1 1 (FloatOps.cmpfTotal .gt) (res_main_v14 V0) sliceFits_S4096x1_S4096x1).1) shapeCasts_S4096x1_S4096) (res_main_call2_v5 V0)) (broadcastInDim S4096 ![] bcast_S_S4096 (constant (F := Ideal) S_ .f32 0x7FC00000#32)))) = G
  generalize hN : addf (mulf (Host.divf (subf (res_main_v35 V0) (broadcastInDim S4096x4096 ![0, 1] bcast_S4096x1_S4096x4096_0_1 (Host.divf (broadcastInDim S4096x1 ![0] bcast_S4096_S4096x1_0 (Host.reduceAdd (res_main_v35 V0) (constant (F := Ideal) S_ .f32 0x00000000#32) reducesTo_S4096x4096_S4096_d1 h_S_)) (broadcastInDim S4096x1 ![] bcast_S_S4096x1 (constant (F := Ideal) S_ .f32 0x45800000#32))))) (broadcastInDim S4096x4096 ![0, 1] bcast_S4096x1_S4096x4096_0_1 (Host.sqrt (addf (select (broadcastInDim S4096x1 ![] bcast_S_S4096x1 (cmpf .ogt (res_main_call4_v8 V0) (constant (F := Ideal) S_ .f32 0x00000000#32))) (Host.divf (broadcastInDim S4096x1 ![0] bcast_S4096_S4096x1_0 (Host.reduceAdd (mulf (res_main_call4_v5 V0) (res_main_call4_v5 V0)) (constant (F := Ideal) S_ .f32 0x00000000#32) reducesTo_S4096x4096_S4096_d1 h_S_)) (broadcastInDim S4096x1 ![] bcast_S_S4096x1 (res_main_call4_v8 V0))) (broadcastInDim S4096x1 ![] bcast_S_S4096x1 (id (constant (F := Ideal) S_ .f32 0x7FC00000#32)))) (broadcastInDim S4096x1 ![] bcast_S_S4096x1 (constant (F := Ideal) S_ .f32 0x3727C5AC#32)))))) (broadcastInDim S4096x4096 ![0, 1] bcast_S1x4096_S4096x4096_0_1 (broadcastInDim S1x4096 ![1] bcast_S4096_S1x4096_1 (V0 (Proc.devRef .tc main_arg5))))) (broadcastInDim S4096x4096 ![0, 1] bcast_S1x4096_S4096x4096_0_1 (broadcastInDim S1x4096 ![1] bcast_S4096_S1x4096_1 (V0 (Proc.devRef .tc main_arg6)))) = N
  have eN : ∀ k, (N (ix2 p k) : EReal) = _ := fun k => (congrFun hN (ix2 p k)).symm.trans (norm_apply V0 p k)
  have eG : (G (ix2 p q) : EReal) = 1 := (congrFun hG (ix2 p q)).symm.trans (gate_apply V0 h p q)
  clear hG hN
  pointwise
  rw [eG, mul_one]
  simp only [eN]
  rfl

end Cert.ReferenceIdeal.RefValue
-- ==== Proof.Condition.lean ====
/-
  What the precondition says: every gate score is a finite number.
-/
module

public import proofs.«01_k».proof.Pre_gate_finite
public import proofs.«01_k».proof.Proof.ReferenceValue

@[expose] public section

set_option maxRecDepth 16384

noncomputable section

open Idealize.ShloMosaic

namespace Cert.Ffn.Condition

open Cert.ReferenceIdeal Cert.ReferenceIdeal.Gen Cert.ReferenceIdeal.Value Cert.ReferenceIdeal.RefValue

/-- The shape relations of the precondition; the reference takes the same ones. -/
theorem facts : Cert.Pre_gate_finite.Facts where
  shapeCasts_S2048x2x1024_S4096x1024 := facts₀.shapeCasts_S2048x2x1024_S4096x1024
  transposes_S1x1024_S1024x1_1_0 := facts₀.transposes_S1x1024_S1024x1_1_0
  bcast_S1_S1x1_1 := facts₀.bcast_S1_S1x1_1
  bcast_S1x1_S4096x1_0_1 := facts₀.bcast_S1x1_S4096x1_0_1
  bcast_S_S4096x1 := facts₀.bcast_S_S4096x1
  dot_S4096x1024_S1024x1_S4096x1_1_0_0_1_n_n_wf := facts₀.dot_S4096x1024_S1024x1_S4096x1_1_0_0_1_n_n_wf

/-- A number whose absolute value is below infinity is finite. -/
theorem finite_of_abs_lt (x : EReal) (h : max x (-x) < ⊤) : x ≠ ⊤ ∧ x ≠ ⊥ := by
  constructor <;> rintro rfl <;> simp at h

/-- Under the precondition every gate score of the reference is finite. -/
theorem score_finite (V0 : Valuation τ sig (Elt Ideal)) (a3 : FVec Ideal S4096x1024 .f32) (a4 a5 a6 : FVec Ideal S4096 .f32)
    (a7 : FVec Ideal S1024x4096 .f32) (a8 : FVec Ideal S1024 .f32)
    (h : @Cert.Pre_gate_finite.fn facts Ideal _ (V0 (Proc.devRef .tc main_arg0)) (V0 (Proc.devRef .tc main_arg1))
      (V0 (Proc.devRef .tc main_arg2)) a3 a4 a5 a6 a7 a8 = fun _ => 1#1) (p : Fin 4096) :
    score V0 p ≠ ⊤ ∧ score V0 p ≠ ⊥ := by
  apply finite_of_abs_lt
  have hp : Ideal.cmp .olt (max (score V0 p) (-(score V0 p))) (Ideal.ofBits .f32 0x7F800000#32) = 1#1 :=
    congrFun h (ix2 p 0)
  have hi : Ideal.ofBits .f32 0x7F800000#32 = ⊤ := by simp [Ideal.ofBits, Ideal.ieee]
  rw [hi] at hp
  by_contra hn
  simp only [Ideal.cmp, decide_eq_false hn] at hp
  exact absurd hp (by decide)

end Cert.Ffn.Condition
-- ==== Proof.lean ====
/-
  The certificate: the frames of the three programs, and the equation of the kernel's results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.KernelValue
public import proofs.«01_k».proof.Proof.Condition

@[expose] public section

noncomputable section

open Idealize.ShloMosaic Idealize.ShloMosaic.TcCoe Idealize.SL.Sem Idealize.ShloMosaic.StableHlo

namespace Cert.Proof

/-- The reference terminates, leaves its arguments unchanged and every semaphore counter at zero. -/
theorem frame_reference : @Cert.quiescent_ReferenceIdeal Cert.ReferenceIdeal.Gen.facts := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Under the precondition the reference's first result is the pass on every token, of the kernel's arguments. -/
theorem reference_value (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0) = m ((c : Thread Cert.KernelIdeal.nD Cert.KernelIdeal.τ).loc Cert.KernelIdeal.main_arg0))
    (h3 : V0 (Proc.devRef .tc Cert.ReferenceIdeal.main_arg3) = m ((c : Thread Cert.KernelIdeal.nD Cert.KernelIdeal.τ).loc Cert.KernelIdeal.main_arg3))
    (h4 : V0 (Proc.devRef .tc Cert.ReferenceIdeal.main_arg4) = m ((c : Thread Cert.KernelIdeal.nD Cert.KernelIdeal.τ).loc Cert.KernelIdeal.main_arg4))
    (h5 : V0 (Proc.devRef .tc Cert.ReferenceIdeal.main_arg5) = m ((c : Thread Cert.KernelIdeal.nD Cert.KernelIdeal.τ).loc Cert.KernelIdeal.main_arg5))
    (h6 : V0 (Proc.devRef .tc Cert.ReferenceIdeal.main_arg6) = m ((c : Thread Cert.KernelIdeal.nD Cert.KernelIdeal.τ).loc Cert.KernelIdeal.main_arg6))
    (h7 : V0 (Proc.devRef .tc Cert.ReferenceIdeal.main_arg7) = m ((c : Thread Cert.KernelIdeal.nD Cert.KernelIdeal.τ).loc Cert.KernelIdeal.main_arg7))
    (h8 : V0 (Proc.devRef .tc Cert.ReferenceIdeal.main_arg8) = m ((c : Thread Cert.KernelIdeal.nD Cert.KernelIdeal.τ).loc Cert.KernelIdeal.main_arg8))
    (h : ∀ p, Cert.ReferenceIdeal.RefValue.score V0 p ≠ ⊤ ∧ Cert.ReferenceIdeal.RefValue.score V0 p ≠ ⊥) :
    Cert.ReferenceIdeal.Value.val2 V0 (Proc.devRef .tc Cert.ReferenceIdeal.main_v70)
      = shapeCast Cert.KernelIdeal.S2048x2x1024 (Cert.KernelIdeal.ArrayValue.target m c) Cert.KernelIdeal.Gen.facts₀.shapeCasts_S4096x1024_S2048x2x1024 := by
  rw [Cert.ReferenceIdeal.Value.val2_main_v70, Cert.ReferenceIdeal.RefValue.value V0 h]
  unfold Cert.ReferenceIdeal.Value.res_main_v0 Cert.KernelIdeal.ArrayValue.target
  rw [h0, h3, h4, h5, h6, h7, h8]
  rfl

/-- The kernel's results and the reference's are equal at the ideal instance, when the gate scores are finite. -/
theorem equation : @Cert.algebraic_KernelIdeal_ReferenceIdeal_pre_gate_finite Cert.KernelIdeal.Gen.facts Cert.ReferenceIdeal.Gen.facts
    Cert.Ffn.Condition.facts := by
  intro m g m' g' hp ha
  refine ⟨fun c => shapeCast Cert.KernelIdeal.S2048x2x1024 (Cert.KernelIdeal.ArrayValue.target m c) Cert.KernelIdeal.Gen.facts₀.shapeCasts_S4096x1024_S2048x2x1024,
    fun _ => constant (F := Ideal) Cert.KernelIdeal.S_ .f32 0x00000000#32, fun _ => constant (F := Ideal) Cert.KernelIdeal.S_ .f32 0x00000000#32,
    Cert.KernelIdeal.ArrayValue.run m g, ?_⟩
  have hv : ∀ c : Dev Cert.ReferenceIdeal.nD, Cert.ReferenceIdeal.Value.val2 (launchContents m' c) (Proc.devRef .tc Cert.ReferenceIdeal.main_v70)
      = shapeCast Cert.KernelIdeal.S2048x2x1024 (Cert.KernelIdeal.ArrayValue.target m c) Cert.KernelIdeal.Gen.facts₀.shapeCasts_S4096x1024_S2048x2x1024 := by
    intro c
    obtain ⟨h0, h1, h2, h3, h4, h5, h6, h7, h8⟩ := ha c
    refine reference_value m _ c h0 h3 h4 h5 h6 h7 h8 fun p =>
      Cert.Ffn.Condition.score_finite _ (m (c.tc.loc Cert.KernelIdeal.main_arg3)) (m (c.tc.loc Cert.KernelIdeal.main_arg4))
        (m (c.tc.loc Cert.KernelIdeal.main_arg5)) (m (c.tc.loc Cert.KernelIdeal.main_arg6)) (m (c.tc.loc Cert.KernelIdeal.main_arg7))
        (m (c.tc.loc Cert.KernelIdeal.main_arg8)) ?_ p
    refine Eq.trans ?_ (hp c)
    show @Cert.Pre_gate_finite.fn Cert.Ffn.Condition.facts Ideal _ (m' (c.tc.loc Cert.ReferenceIdeal.main_arg0))
      (m' (c.tc.loc Cert.ReferenceIdeal.main_arg1)) (m' (c.tc.loc Cert.ReferenceIdeal.main_arg2)) _ _ _ _ _ _ = _
    rw [h0, h1, h2]
  exact (θ_run Cert.ReferenceIdeal.defs _ _).mono
    (fun r h c => ⟨(h c).1.trans ((Cert.ReferenceIdeal.Value.val2_main_v70 (launchContents m' c)).symm.trans (hv c)), (h c).2⟩)
    (Cert.ReferenceIdeal.Value.run (F := Ideal) m' g')

/-- Everything the certificate claims. -/
theorem claim : Cert.Claim := ⟨Cert.Kernel.Gen.facts, Cert.KernelIdeal.Gen.facts, Cert.ReferenceIdeal.Gen.facts, Cert.Ffn.Condition.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial, equation⟩

end Cert.Proof

end
